-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_terms [hPre_finite_terms : Cert.Pre_finite_terms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_terms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_terms [hPre_finite_terms : Cert.Pre_finite_terms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_terms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_terms [hKernelIdeal : Cert.KernelIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_terms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_terms [hReferenceIdeal : Cert.ReferenceIdeal.Facts] [hPre_finite_terms : Cert.Pre_finite_terms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_terms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_terms [hKernelIdeal : Cert.KernelIdeal.Facts] [hReferenceIdeal : Cert.ReferenceIdeal.Facts] [hPre_finite_terms : Cert.Pre_finite_terms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_terms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_terms : Cert.Pre_finite_terms.Facts),
    quiescent_Kernel (hKernel := hKernel)
    ∧ quiescent_KernelIdeal (hKernelIdeal := hKernelIdeal)
    ∧ quiescent_KernelIdeal_pre_finite_terms (hKernelIdeal := hKernelIdeal) (hPre_finite_terms := hPre_finite_terms)
    ∧ quiescent_ReferenceIdeal (hReferenceIdeal := hReferenceIdeal)
    ∧ quiescent_ReferenceIdeal_pre_finite_terms (hReferenceIdeal := hReferenceIdeal) (hPre_finite_terms := hPre_finite_terms)
    ∧ preserves_Kernel_KernelIdeal
    ∧ algebraic_KernelIdeal_ReferenceIdeal_pre_finite_terms (hKernelIdeal := hKernelIdeal) (hReferenceIdeal := hReferenceIdeal) (hPre_finite_terms := hPre_finite_terms)
-- ==== Pre_finite_terms.lean ====
abbrev S64x196x4096 : Shape := ⟨3, ![64, 196, 4096]⟩
abbrev S64x196 : Shape := ⟨2, ![64, 196]⟩
abbrev S_ : Shape := ⟨0, ![]⟩
abbrev S64x196x1 : Shape := ⟨3, ![64, 196, 1]⟩

class Facts : Prop where
  bcast_S_S64x196x4096 : S_.BroadcastsInDim S64x196x4096 (![] : Fin 0 → Fin S64x196x4096.rank)
  bcast_S64x196_S64x196x1_0_1 : S64x196.BroadcastsInDim S64x196x1 (![0, 1] : Fin 2 → Fin S64x196x1.rank)
  bcast_S64x196x1_S64x196x4096_0_1_2 : S64x196x1.BroadcastsInDim S64x196x4096 (![0, 1, 2] : Fin 3 → Fin S64x196x4096.rank)
  reducesTo_S64x196x4096_S_d0_1_2 : S64x196x4096.ReducesTo [0, 1, 2] S_
  h_S_ : 0 < S_.numel

variable [Facts]

def fn_part1 {F : FTy → Type} [FloatOps F] (main_v18 : IVec S64x196x4096 1) : IVec S_ 1 :=
  let main_c : IVec S_ 1 := constantI S_ 1 1#1
  let main_v19 : IVec S_ 1 := (fun x v => Host.reduce IntOp.andi x v reducesTo_S64x196x4096_S_d0_1_2 h_S_) main_v18 main_c
  main_v19

def fn {F : FTy → Type} [FloatOps F] (main_arg0 : FVec F S64x196x4096 .f32) (main_arg1 : FVec F S64x196x4096 .f32) (main_arg2 : IVec S64x196 1) : IVec S_ 1 :=
  let main_cst : FVec F S_ .f32 := constant S_ .f32 0x7F800000#32
  let main_v0 : FVec F S_ .f32 := Host.negf main_cst
  let main_v1 : FVec F S64x196x4096 .f32 := broadcastInDim S64x196x4096 ![] bcast_S_S64x196x4096 main_v0
  let main_v2 : IVec S64x196x4096 1 := cmpf .ogt main_arg1 main_v1
  let main_cst_0 : FVec F S_ .f32 := constant S_ .f32 0x7F800000#32
  let main_v3 : FVec F S64x196x4096 .f32 := broadcastInDim S64x196x4096 ![] bcast_S_S64x196x4096 main_cst_0
  let main_v4 : IVec S64x196x4096 1 := cmpf .olt main_arg1 main_v3
  let main_v5 : IVec S64x196x4096 1 := andi main_v2 main_v4
  let main_cst_1 : FVec F S_ .f32 := constant S_ .f32 0x7F800000#32
  let main_v6 : FVec F S64x196x4096 .f32 := broadcastInDim S64x196x4096 ![] bcast_S_S64x196x4096 main_cst_1
  let main_v7 : IVec S64x196x4096 1 := cmpf .olt main_arg0 main_v6
  let main_v8 : IVec S64x196x4096 1 := andi main_v5 main_v7
  let main_cst_2 : FVec F S_ .f32 := constant S_ .f32 0x00000000#32
  let main_v9 : FVec F S64x196x4096 .f32 := broadcastInDim S64x196x4096 ![] bcast_S_S64x196x4096 main_cst_2
  let main_v10 : IVec S64x196x4096 1 := cmpf .oge main_arg1 main_v9
  let main_cst_3 : FVec F S_ .f32 := constant S_ .f32 0x00000000#32
  let main_v11 : FVec F S64x196x4096 .f32 := broadcastInDim S64x196x4096 ![] bcast_S_S64x196x4096 main_cst_3
  let main_v12 : IVec S64x196x4096 1 := cmpf .ogt main_arg0 main_v11
  let main_v13 : IVec S64x196x4096 1 := ori main_v10 main_v12
  let main_v14 : IVec S64x196x4096 1 := andi main_v8 main_v13
  let main_v15 : IVec S64x196 1 := noti main_arg2
  let main_v16 : IVec S64x196x1 1 := broadcastInDim S64x196x1 ![0, 1] bcast_S64x196_S64x196x1_0_1 main_v15
  let main_v17 : IVec S64x196x4096 1 := broadcastInDim S64x196x4096 ![0, 1, 2] bcast_S64x196x1_S64x196x4096_0_1_2 main_v16
  let main_v18 : IVec S64x196x4096 1 := ori main_v17 main_v14
  fn_part1 (F := F) main_v18
-- ==== Kernel.lean ====
abbrev S64x196x4096 : Shape := ⟨3, ![64, 196, 4096]⟩
abbrev S64x196 : Shape := ⟨2, ![64, 196]⟩
abbrev S196x64x4096 : Shape := ⟨3, ![196, 64, 4096]⟩
abbrev S196x64 : Shape := ⟨2, ![196, 64]⟩
abbrev S1x1 : Shape := ⟨2, ![1, 1]⟩
abbrev S4x64x4096 : Shape := ⟨3, ![4, 64, 4096]⟩
abbrev S4x64 : Shape := ⟨2, ![4, 64]⟩
abbrev S4x64x1 : Shape := ⟨3, ![4, 64, 1]⟩
abbrev S1x4x64x4096 : Shape := ⟨4, ![1, 4, 64, 4096]⟩
abbrev S1 : Shape := ⟨1, ![1]⟩
abbrev S1x1x1x1 : Shape := ⟨4, ![1, 1, 1, 1]⟩
abbrev S1x196x64 : Shape := ⟨3, ![1, 196, 64]⟩
abbrev S1x1x1 : Shape := ⟨3, ![1, 1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S64x196x4096, .f32⟩
  | .hbm, ⟨1, _⟩ => ⟨S64x196x4096, .f32⟩
  | .hbm, ⟨2, _⟩ => ⟨S64x196, .i1⟩
  | .hbm, ⟨3, _⟩ => ⟨S196x64x4096, .f32⟩
  | .hbm, ⟨4, _⟩ => ⟨S196x64x4096, .f32⟩
  | .hbm, ⟨5, _⟩ => ⟨S64x196, .f32⟩
  | .hbm, ⟨6, _⟩ => ⟨S196x64, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S196x64, .f32⟩
  | .local _ .vmem, ⟨1, _⟩ => ⟨S4x64x4096, .f32⟩
  | .local _ .vmem, ⟨2, _⟩ => ⟨S4x64x4096, .f32⟩
  | .local _ .vmem, ⟨3, _⟩ => ⟨S4x64x4096, .f32⟩
  | .local _ .vmem, ⟨4, _⟩ => ⟨S4x64x4096, .f32⟩
  | .local _ .vmem, ⟨5, _⟩ => ⟨S1x1, .f32⟩
  | .local _ .vmem, ⟨6, _⟩ => ⟨S1x1, .f32⟩
  | _, _ => ⟨S64x196x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![49], ![false]⟩

def k0_off1 (i : grid0.Coords) : Fin 2 → Nat :=
  let arg0 : BitVec 32 := BitVec.ofNat 32 (i 0).val
  let c4_i32 : BitVec 32 := 4#32
  let v4 : BitVec 32 := Scalar.muli arg0 c4_i32
  let v5 : Index := Scalar.indexCast v4
  let c0_5 : Index := 0#32
  ![v5.toNat, 0]
def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S196x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x196x4096 : Shape := ⟨3, ![64, 196, 4096]⟩
abbrev S64x196 : Shape := ⟨2, ![64, 196]⟩
abbrev S64x196x1 : Shape := ⟨3, ![64, 196, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x196x4096, .f32⟩
  | .hbm, ⟨1, _⟩ => ⟨S64x196x4096, .f32⟩
  | .hbm, ⟨2, _⟩ => ⟨S64x196, .i1⟩
  | .hbm, ⟨3, _⟩ => ⟨S64x196, .f32⟩
  | .hbm, ⟨4, _⟩ => ⟨S64x196x1, .i1⟩
  | .hbm, ⟨5, _⟩ => ⟨S_, .f32⟩
  | .hbm, ⟨6, _⟩ => ⟨S64x196x4096, .f32⟩
  | .hbm, ⟨7, _⟩ => ⟨S64x196x4096, .i1⟩
  | .hbm, ⟨8, _⟩ => ⟨S64x196x4096, .f32⟩
  | .hbm, ⟨9, _⟩ => ⟨S64x196x4096, .f32⟩
  | .hbm, ⟨10, _⟩ => ⟨S64x196x4096, .f32⟩
  | .hbm, ⟨11, _⟩ => ⟨S_, .f32⟩
  | .hbm, ⟨12, _⟩ => ⟨S64x196, .f32⟩
  | .hbm, ⟨13, _⟩ => ⟨S64x196, .f32⟩
  | .hbm, ⟨14, _⟩ => ⟨S64x196, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x196x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Terms.lean ====
/- The scalars both programs sum, and the laws of extended reals that bring one sum to the other. -/
module

public import Idealize.ShloMosaic.PureOps.Ideal
public import Idealize.ShloMosaic.PureOps.Ideal.Laws
public import Idealize.ShloMosaic.Lib.Pointwise

@[expose] public section

noncomputable section

namespace Cert.Terms

open Idealize.ShloMosaic

/-- A mask bit as a number. -/
abbrev bit (s : BitVec 1) : EReal := FloatOps.uitofp (F := Ideal) .f32 s

/-- One entry's term: the weight `q` times the logarithm of the probability `p`, which counts as 1 where the mask
    bit is off. -/
def term (p q : EReal) (s : BitVec 1) : EReal := q * Ideal.log (Scalar.select s p 1)

theorem bit_off : bit 0#1 = 0 := by
  show (((0#1 : BitVec 1).toNat : ℝ) : EReal) = 0
  simp

theorem bit_on : bit 1#1 = 1 := by
  show (((1#1 : BitVec 1).toNat : ℝ) : EReal) = 1
  simp

/-- An entry whose mask bit is off contributes nothing. -/
theorem term_off (p q : EReal) : term p q 0#1 = 0 := by
  have h : Ideal.log 1 = 0 := by
    rw [← EReal.coe_one, Ideal.log_coe, if_neg (by norm_num), Real.log_one, EReal.coe_zero]
  rw [term, show Scalar.select 0#1 p 1 = 1 from rfl, h, mul_zero]

theorem term_on (p q : EReal) : term p q 1#1 = q * Ideal.log p := rfl

/-- The kernel asks whether the mask's number is positive, and multiplies by it: the same term. -/
theorem kernel_term (p q : EReal) (s : BitVec 1) :
    q * Ideal.log (if 0 < bit s then p else 1) * bit s = term p q s := by
  rcases BitVec.eq_zero_or_eq_one s with rfl | rfl
  · rw [bit_off, term_off, mul_zero]
  · rw [bit_on, term_on, if_pos zero_lt_one, mul_one]

/-- The reference negates a token's sum and multiplies it by the mask's number: the negated sum, for a token
    whose mask bit is off sums to nothing. -/
theorem reference_token {n : ℕ} (p q : Fin n → EReal) (s : BitVec 1) :
    (-∑ k, term (p k) (q k) s) * bit s = -∑ k, term (p k) (q k) s := by
  rcases BitVec.eq_zero_or_eq_one s with rfl | rfl
  · simp only [term_off, Finset.sum_const_zero, neg_zero, zero_mul]
  · rw [bit_on, mul_one]

/-- A selected term is not +∞ where the weight is finite, the probability is not +∞, and not both the weight is
    negative and the probability has logarithm −∞. -/
theorem term_ne_top (p q : EReal) (s : BitVec 1)
    (h : s = 1#1 → ⊥ < q ∧ q < ⊤ ∧ p < ⊤ ∧ (0 ≤ q ∨ 0 < p)) : term p q s ≠ ⊤ := by
  rcases BitVec.eq_zero_or_eq_one s with rfl | rfl
  · rw [term_off]; exact EReal.zero_ne_top
  · obtain ⟨hb, ht, hp, hs⟩ := h rfl
    rw [term_on]
    lift q to ℝ using ⟨ht.ne, hb.ne'⟩
    have low : Ideal.log p = ⊥ → (0 : EReal) ≤ q → (q : EReal) * Ideal.log p ≠ ⊤ := fun hl hq => by
      rw [hl]
      rcases hq.eq_or_lt with h0 | h0
      · rw [← h0, zero_mul]; exact EReal.zero_ne_top
      · rw [EReal.mul_bot_of_pos h0]; exact bot_ne_top
    induction p with
    | bot => exact low rfl (hs.resolve_right not_lt_bot)
    | top => exact absurd rfl hp.ne
    | coe r =>
      by_cases hr : r ≤ 0
      · exact low (by rw [Ideal.log_coe, if_pos hr])
          (hs.resolve_right (not_lt.mpr (by exact_mod_cast hr)))
      · rw [Ideal.log_coe, if_neg hr, ← EReal.coe_mul]
        exact EReal.coe_ne_top _

/-- A finite sum without +∞ among its terms is not +∞. -/
theorem sum_ne_top {ι : Type*} (S : Finset ι) (f : ι → EReal) (h : ∀ i ∈ S, f i ≠ ⊤) : ∑ i ∈ S, f i ≠ ⊤ := by
  classical
  induction S using Finset.induction_on with
  | empty => rw [Finset.sum_empty]; exact EReal.zero_ne_top
  | insert a S ha ih =>
    rw [Finset.sum_insert ha]
    exact (EReal.add_lt_top (h a (Finset.mem_insert_self a S))
      (ih fun i hi => h i (Finset.mem_insert_of_mem hi))).ne

/-- Its negation is the sum of the negated terms. -/
theorem neg_sum {ι : Type*} (S : Finset ι) (f : ι → EReal) (h : ∀ i ∈ S, f i ≠ ⊤) :
    -∑ i ∈ S, f i = ∑ i ∈ S, -f i := by
  classical
  induction S using Finset.induction_on with
  | empty => rw [Finset.sum_empty, Finset.sum_empty, neg_zero]
  | insert a S ha ih =>
    have hS : ∀ i ∈ S, f i ≠ ⊤ := fun i hi => h i (Finset.mem_insert_of_mem hi)
    rw [Finset.sum_insert ha, Finset.sum_insert ha, ← ih hS,
      EReal.neg_add (.inr (sum_ne_top S f hS)) (.inl (h a (Finset.mem_insert_self a S))), sub_eq_add_neg]

end Cert.Terms

end
-- ==== Proof.Precondition.lean ====
/- The precondition, read at an entry: where the mask selects a token, its weights are finite, its probabilities
   are not +∞, and no negative weight meets a probability whose logarithm is −∞. -/
module

public import proofs.«01_k».proof.Pre_finite_terms
public import proofs.«01_k».proof.Proof.Terms
public import Idealize.ShloMosaic.Lib.Pointwise
public import Idealize.ShloMosaic.Lib.ReduceAll
public import Idealize.ShloMosaic.Lib.Affine
public import Idealize.ShloMosaic.Lib.WordArith

@[expose] public section

set_option maxRecDepth 16384

noncomputable section

namespace Cert.Pre_finite_terms.Hand

open Idealize.ShloMosaic
open Cert.Pre_finite_terms

/-- The shape relations the precondition's operations state hold. -/
instance facts : Cert.Pre_finite_terms.Facts where
  bcast_S_S64x196x4096 := by decide
  bcast_S64x196_S64x196x1_0_1 := by decide
  bcast_S64x196x1_S64x196x4096_0_1_2 := by decide
  reducesTo_S64x196x4096_S_d0_1_2 := by decide
  h_S_ := by decide

/-- The pattern of +∞ is read as +∞. -/
theorem infinity : Ideal.ofBits .f32 0x7F800000#32 = ⊤ := by
  show Ideal.ieee 8 23 0x7F800000#32 = ⊤
  simp [Ideal.ieee]

/-- The bit of a truth value is on exactly where it is true. -/
theorem on_iff (v : Bool) : BitVec.ofBool v = 1#1 ↔ v = true := by cases v <;> decide

variable (p q : FVec Ideal S64x196x4096 .f32) (s : IVec S64x196 1)

/-- Under the precondition, at a selected token's entry. -/
theorem selected (h : Cert.Pre_finite_terms.fn p q s = fun _ => 1#1) (b : Fin 64) (j : Fin 196) (k : Fin 4096)
    (hs : s (ix2 b j) = 1#1) :
    ⊥ < q (ix3 b j k) ∧ q (ix3 b j k) < ⊤ ∧ p (ix3 b j k) < ⊤ ∧ (0 ≤ q (ix3 b j k) ∨ 0 < p (ix3 b j k)) := by
  have e := Host.reduce_andi_all _ _ _ _ ix0 (congrFun h ix0) (ix3 b j k)
  revert e
  pointwise
  rw [hs, infinity]
  simp only [WordArith.andi_ofBool, WordArith.ori_ofBool, EReal.neg_top]
  intro e
  have e' := (IntOp.ori_eq_one.mp e).resolve_left (by decide)
  simp only [on_iff, Bool.and_eq_true, Bool.or_eq_true, decide_eq_true_eq, and_assoc] at e'
  exact ⟨of_decide_eq_true e'.1, e'.2⟩

/-- Under the precondition no entry's term is +∞. -/
theorem term_ne_top (h : Cert.Pre_finite_terms.fn p q s = fun _ => 1#1) (b : Fin 64) (j : Fin 196) (k : Fin 4096) :
    Terms.term (p (ix3 b j k)) (q (ix3 b j k)) (s (ix2 b j)) ≠ ⊤ :=
  Terms.term_ne_top _ _ _ (selected p q s h b j k)

end Cert.Pre_finite_terms.Hand

end
-- ==== Proof.BodyRuns.lean ====
/- What the kernel's body does to its staging buffers, in the two cases of its one condition: at the first grid
   point it starts both results, and at every later point it only adds to the first. -/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the grid point is the first. -/
abbrev isFirst (i : grid0.Coords) : Prop := k0_cond1 i = 1#1

/-- It holds exactly at point 0. -/
theorem isFirst_iff (t : Fin cfg0.N) : isFirst (grid0.coords t) ↔ t.val = 0 := by
  have ht : t.val < 49 := Nat.lt_of_lt_of_eq t.isLt N_0
  have e0 : (grid0.coords t 0).val = t.val / 1 % 49 := Pipeline.Grid.coords_val t 0 (by decide) rfl
  have h : isFirst (grid0.coords t) ↔ t.val % 49 = 0 := by
    simp only [isFirst, k0_cond1, e0]
    word_cmp
  rw [h, Nat.mod_eq_of_lt ht]

/-- The four rows of the mask the body reads at a grid point. -/
def maskRows (i : grid0.Coords) (x : Vec F S196x64 .f32) : Vec F S4x64 .f32 :=
  View.ld (Val := Elt F) (e' := .f32) x (Rect.unit (s := S196x64) (k0_off1 i) S4x64.size (k0_off1_inb i))

theorem offset_zero : (![0, 0] : Fin 2 → ℕ) = fun _ => 0 := by funext a; fin_cases a <;> rfl
theorem offset_zero3 : (![0, 0, 0] : Fin 3 → ℕ) = fun _ => 0 := by funext a; fin_cases a <;> rfl

/-- A load of a whole buffer reads its contents: the mask, a block, a one-element result. -/
theorem whole_mask (X : Vec F S196x64 .f32) (inb : ∀ a, (![0, 0] : Fin 2 → ℕ) a + S196x64.size a ≤ S196x64.size a) :
    View.ld (Val := Elt F) (e' := .f32) X (Rect.unit (s := S196x64) ![0, 0] S196x64.size inb) = X :=
  View.ld_unit_zero (S := S196x64) offset_zero inb X
theorem whole_block (X : Vec F S4x64x4096 .f32) (inb : ∀ a, (![0, 0, 0] : Fin 3 → ℕ) a + S4x64x4096.size a ≤ S4x64x4096.size a) :
    View.ld (Val := Elt F) (e' := .f32) X (Rect.unit (s := S4x64x4096) ![0, 0, 0] S4x64x4096.size inb) = X :=
  View.ld_unit_zero (S := S4x64x4096) offset_zero3 inb X
theorem whole_one (X : Vec F S1x1 .f32) (inb : ∀ a, (![0, 0] : Fin 2 → ℕ) a + S1x1.size a ≤ S1x1.size a) :
    View.ld (Val := Elt F) (e' := .f32) X (Rect.unit (s := S1x1) ![0, 0] S1x1.size inb) = X :=
  View.ld_unit_zero (S := S1x1) offset_zero inb X

/-- The body's contribution depends on what it reads only. -/
theorem pay3_congr {x1 y1 x2 y2 : Vec F S4x64x4096 .f32} {a b : Vec F S4x64 .f32} {n k : Vec F S1x1 .f32}
    (h1 : x1 = y1) (h2 : x2 = y2) (h3 : a = b) (h4 : n = k) : k0_pay3 x1 x2 a n = k0_pay3 y1 y2 b k := by
  rw [h1, h2, h3, h4]

section
variable (c : Dev nD) (i : grid0.Coords)
  (arg1 : Memref sig .tc .vmem S196x64 .f32) (harg1 : arg1.IsWhole)
  (arg2 : Memref sig .tc .vmem S4x64x4096 .f32) (harg2 : arg2.IsWhole)
  (arg3 : Memref sig .tc .vmem S4x64x4096 .f32) (harg3 : arg3.IsWhole)
  (arg4 : Memref sig .tc .vmem S1x1 .f32) (harg4 : arg4.IsWhole)
  (arg5 : Memref sig .tc .vmem S1x1 .f32) (harg5 : arg5.IsWhole)
  (x0 : Vec F S196x64 .f32) (x1 x2 : Vec F S4x64x4096 .f32) (n d : Vec F S1x1 .f32)

set_option maxHeartbeats 1000000 in
/-- At the first point the body leaves the block's contribution over zero in the first result and the sum of
    the whole mask in the second, whatever the two held. -/
theorem run_first (hc0 : isFirst i) (E : Set ℕ) (K : PUnit → sProp 𝕄) :
    iprop(owns (c : Thread nD τ) arg1 fullShare x0 ∗ owns (c : Thread nD τ) arg2 fullShare x1 ∗ owns (c : Thread nD τ) arg3 fullShare x2
        ∗ (∃ n, owns (c : Thread nD τ) arg4 fullShare n) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x1 x2 (maskRows i x0) k0_pay1)
            ∗ owns (c : Thread nD τ) arg5 fullShare (k0_pay2 x0)) -∗ K ⟨⟩))
      ⊢ wp frame (wpE (defs₀ (F := F)) Variants.none c none) E
          (cc0__dense_kernel i arg1 harg1 arg2 harg2 arg3 harg3 arg4 harg4 arg5 harg5) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (View.cover_of_tiledL _ S1x1.size (by sl_kernel_rfl)),
      View.canon_cons_unit_zero offset_zero]
    try sl_unfold_words
    simp only [View.readAt_eq_ld, harg1.read_unread, harg2.read_unread, harg3.read_unread, harg4.read_unread,
      View.readCov_unit_zero (S := S1x1) _ offset_zero]
    exact pay3_congr (whole_block x1 _) (whole_block x2 _) rfl rfl
  iexists _; isplitr
  swap; · iexact H4
  ipureintro
  rw [View.read_writes_eq_canon _ _ _ (View.cover_of_tiledL _ S1x1.size (by sl_kernel_rfl)),
    View.canon_cons_unit_zero offset_zero]
  try sl_unfold_words
  simp only [View.readAt_eq_ld, harg1.read_unread, harg2.read_unread, harg3.read_unread, harg4.read_unread,
    whole_mask, whole_block, whole_one, View.readCov_unit_zero (S := S1x1) _ offset_zero]
  exact congrArg k0_pay2 (whole_mask x0 _)

set_option maxHeartbeats 1000000 in
/-- At a later point the body adds the block's contribution to the first result and leaves the second alone. -/
theorem run_later (hc0 : ¬ isFirst i) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare n ∗ owns (c : Thread nD τ) arg5 fullShare d
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x1 x2 (maskRows i x0) n)
            ∗ owns (c : Thread nD τ) arg5 fullShare d) -∗ K ⟨⟩))
      ⊢ wp frame (wpE (defs₀ (F := F)) Variants.none c none) E
          (cc0__dense_kernel i arg1 harg1 arg2 harg2 arg3 harg3 arg4 harg4 arg5 harg5) K := by
  simp only [cc0__dense_kernel_eq_skeleton]; unfold cc0__dense_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (View.cover_of_tiledL _ S1x1.size (by sl_kernel_rfl)),
      View.canon_cons_unit_zero offset_zero]
    try sl_unfold_words
    simp only [View.readAt_eq_ld, harg1.read_unread, harg2.read_unread, harg3.read_unread, harg4.read_unread,
      View.readCov_unit_zero (S := S1x1) _ offset_zero]
    exact pay3_congr (whole_block x1 _) (whole_block x2 _) rfl (whole_one n _)
  iexists _; isplitr
  swap; · iexact H4
  ipureintro; exact hf4

end

end Cert.KernelIdeal.Hand

end
-- ==== Proof.KernelRun.lean ====
/- The kernel's run: what each staging buffer holds after each grid point, and the launch from any memory. -/
module

public import proofs.«01_k».proof.Proof.BodyRuns
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the two results hold after each point -/

/-- The first result after point `t`, from what it held before. -/
def addBlock (t : Fin cfg0.N) (n : Vec F S1x1 .f32) : Vec F S1x1 .f32 :=
  k0_pay3 (iblk m c 1 t) (iblk m c 2 t) (maskRows (grid0.coords t) (iblk m c 0 t)) n

/-- The first result after point `k`: zero, then one block added per point. -/
def numAt : (k : ℕ) → k < cfg0.N → Vec F S1x1 .f32
  | 0, h => addBlock m c ⟨0, h⟩ k0_pay1
  | k + 1, h => addBlock m c ⟨k + 1, h⟩ (numAt k (Nat.lt_of_succ_lt h))

/-- The second result: the sum of the mask. -/
def denAt (t : Fin cfg0.N) : Vec F S1x1 .f32 := k0_pay2 (iblk m c 0 t)

theorem numAt_first (t : Fin cfg0.N) (h : t.val = 0) : numAt m c t.val t.isLt = addBlock m c t k0_pay1 := by
  obtain ⟨k, hk⟩ := t
  obtain rfl : k = 0 := h
  rfl

theorem numAt_later (t : Fin cfg0.N) (h : t.val ≠ 0) :
    numAt m c t.val t.isLt = addBlock m c t (numAt m c (t.val - 1) (Nat.lt_of_le_of_lt (Nat.sub_le _ _) t.isLt)) := by
  obtain ⟨k, hk⟩ := t
  cases k with
  | zero => exact absurd rfl h
  | succ k => rfl

/-- The mask's block is the same at every point. -/
theorem iblk_mask_const (t t' : Fin cfg0.N) : iblk m c 0 t = iblk m c 0 t' := rfl

theorem denAt_const (t t' : Fin cfg0.N) : denAt m c t = denAt m c t' := by
  unfold denAt; exact congrArg k0_pay2 (iblk_mask_const m c t t')

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => numAt m c t.val t.isLt
    | ⟨4, _⟩ => denAt m c t
  Φ _ := Pipeline.ΦA spec0 c
  q _ := fullShare
  owed _ := 0

theorem entry (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = numAt m c t.val t.isLt := by dsimp only [dats]
theorem after4 (t : Fin cfg0.N) : (dats m 0 c).after 4 t = denAt m c t := by dsimp only [dats]

theorem before0 (t : Fin cfg0.N) (d) : (dats m 0 c).before 0 t d = iblk m c 0 t :=
  before0_0_of m (dats m 0 c) (entry m c 0) (after0 m c) t d
theorem before1 (t : Fin cfg0.N) (d) : (dats m 0 c).before 1 t d = iblk m c 1 t :=
  before0_1_of m (dats m 0 c) (entry m c 1) (after1 m c) t d
theorem before2 (t : Fin cfg0.N) (d) : (dats m 0 c).before 2 t d = iblk m c 2 t :=
  before0_2_of m (dats m 0 c) (entry m c 2) (after2 m c) t d

/-- After the first point the first result's buffer holds what the point before left. -/
theorem before3 (t : Fin cfg0.N) (h : t.val ≠ 0) (d) :
    (dats m 0 c).before 3 t d = numAt m c (t.val - 1) (Nat.lt_of_le_of_lt (Nat.sub_le _ _) t.isLt) := by
  have hN : t.val < 49 := lt_of_lt_of_eq t.isLt N_0
  rw [Dat.before_out_kept _ 3 rfl t h (Bool.eq_false_iff.mpr fun h => by have := (flush0_3 _).mp h; dsimp only at this; omega)
    (fun _ => rfl) (fun _ _ => rfl)]
  dsimp only [dats]

/-- The second result's buffer is left alone at a point exactly when the point is not the first. -/
theorem idle4 (t : Fin cfg0.N) (h : t.val ≠ 0) : cfg0.idle 4 (grid0.coords t) = true := by
  show (!(k0_cond1 (grid0.coords t) == 1#1)) = true
  have := mt (isFirst_iff t).mp h
  simpa using this

theorem live4 (t : Fin cfg0.N) (h : t.val = 0) : cfg0.idle 4 (grid0.coords t) = false := by
  show (!(k0_cond1 (grid0.coords t) == 1#1)) = false
  have := (isFirst_iff t).mpr h
  simpa using this

theorem noflush4 (t : Fin cfg0.N) (h : t.val ≠ 48) : (cfg0.win 4).flush t = false := by
  have hN : t.val < 49 := lt_of_lt_of_eq t.isLt N_0
  exact Bool.eq_false_iff.mpr fun hf => by have := (flush0_4 _).mp hf; omega

/-- After the first point the second result's buffer holds the sum of the mask: stored at the first point, and
    left alone since. -/
theorem before4 : ∀ (t : Fin cfg0.N) (h : t.val ≠ 0) (d), (dats m 0 c).before 4 t d = denAt m c t := by
  suffices H : ∀ (k : ℕ) (hk : k + 1 < cfg0.N) (d), (dats m 0 c).before 4 ⟨k + 1, hk⟩ d = denAt m c ⟨k + 1, hk⟩ by
    rintro ⟨k, hk⟩ h d
    cases k with
    | zero => exact absurd rfl h
    | succ k => exact H k hk d
  intro k
  induction k with
  | zero =>
    intro hk d
    rw [Dat.before_of_pos _ 4 _ (by simp) rfl, noflush4 _ (by simp), if_neg Bool.false_ne_true]
    unfold Dat.left
    rw [live4 _ (by simp)]
    unfold Dat.kept
    exact denAt_const m c _ _
  | succ k ih =>
    intro hk d
    have hN : k + 1 + 1 < 49 := lt_of_lt_of_eq hk N_0
    rw [Dat.before_of_pos _ 4 _ (by simp) rfl, noflush4 _ (by simp; omega), if_neg Bool.false_ne_true]
    unfold Dat.left
    rw [idle4 _ (by simp)]
    exact (ih (Nat.lt_of_succ_lt hk) d).trans (denAt_const m c _ _)

/-! ## The body at a point -/

abbrev mem0 (t : Fin cfg0.N) : Memref sig .tc .vmem S196x64 .f32 := win0_0.stage (cfg0.slots t 0)
abbrev mem1 (t : Fin cfg0.N) : Memref sig .tc .vmem S4x64x4096 .f32 := win0_1.stage (cfg0.slots t 1)
abbrev mem2 (t : Fin cfg0.N) : Memref sig .tc .vmem S4x64x4096 .f32 := win0_2.stage (cfg0.slots t 2)
abbrev mem3 (t : Fin cfg0.N) : Memref sig .tc .vmem S1x1 .f32 := win0_3.stage (cfg0.slots t 3)
abbrev mem4 (t : Fin cfg0.N) : Memref sig .tc .vmem S1x1 .f32 := win0_4.stage (cfg0.slots t 4)

/-- What the body is given at a point, window by window. -/
def bodyPre (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- What it gives back. -/
def bodyPost (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ (dats m 0 c).leavesExact 4 t)

/-- The second result's buffer at the sum of the mask is what is asked of it after any point: at the first point
    it was stored there, at the last it is written back from there, and between it is as it was found. -/
theorem leaves4 (t : Fin cfg0.N) :
    owns (c : Thread nD τ) (mem4 t) fullShare (denAt m c t) ⊢ ((dats m 0 c).leavesExact 4 t : sProp 𝕄) := by
  by_cases h0 : t.val = 0
  · unfold Dat.leavesExact; rw [live4 t h0, after4]
  by_cases h1 : t.val = 48
  · unfold Dat.leavesExact; rw [idle4 t h0, (flush0_4 t).mpr (by omega), after4]
  · rw [Dat.leavesExact_idle _ 4 t (idle4 t h0) (noflush4 t h1)]
    iintro H
    iexists (denAt m c t)
    rw [before4 m c t h0]
    iexact H

set_option maxHeartbeats 800000 in
/-- The body at any point leaves what the data say. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val = 0
  · rw [numAt_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((isFirst_iff t).mpr h0) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t); iexact H4
  · rw [numAt_later m c t h0]
    simp only [before3 m c t h0, before4 m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (iblk m c 2 t) _ _ (mt (isFirst_iff t).mp h0) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4 m c t); iexact H4

theorem body_row (t : Fin cfg0.N) :
    defs₀ (F := F) .tc cfg0.body (cfg0.bodyArgs t (cfg0.slots t)) = bodyAt0 t := by
  unfold defs₀; rw [Defs.onTc_tc]

/-- The body meets its obligation at every point. -/
theorem body_obligation : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
set_option maxHeartbeats 800000 in
/-- From any memory with zero counters every execution ends, with the two result arrays at what the data say,
    every buffer the host lines write at what they compute from those, and every counter back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun c w => entry m c w) (hΦ := fun _ _ => rfl)

/-- The arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (fun c w => entry m c w) ((θ_run defs _ _).mono (fun _ h => h.1) (run_main m ρ)))
    ((θ_run defs _ _).mono (fun _ h => h.2) (run_main m ρ))

end Cert.KernelIdeal.Hand

end
-- ==== Proof.SameProgram.lean ====
/- The kernel and its idealized form are the same program: no operation was rewritten, so the two texts differ in their
   namespace only. What is proved of the one at every float instance holds of the other. -/
module

public import proofs.«01_k».proof.Defs
public import proofs.«01_k».proof.Proof.Gen.Kernel
public import proofs.«01_k».proof.Proof.KernelRun

@[expose] public section

set_option maxRecDepth 16384

noncomputable section

namespace Cert.SameProgram

open Idealize.ShloMosaic Idealize.ShloMosaic.TcCoe Idealize.SL.Sem

variable {F : FTy → Type} [FloatOps F]

/-- The two programs' host lines and launches are the same. -/
theorem main_eq : Cert.Kernel.main (F := F) = Cert.KernelIdeal.main (F := F) := rfl

/-- The two launches run the same kernel body: there is one label, and at it both call the same function. -/
theorem body_eq : Cert.Kernel.defs₀ (F := F) = Cert.KernelIdeal.defs₀ (F := F) := by
  unfold Cert.Kernel.defs₀ Cert.KernelIdeal.defs₀
  refine congrArg Defs.onTc (funext fun l => ?_)
  obtain ⟨l, h⟩ := l
  cases l with
  | zero => rfl
  | succ k => exact absurd h (Nat.not_lt.2 (Nat.le_add_left _ _))

/-- The two programs' body tables are the same. -/
theorem defs_eq : Cert.Kernel.defs (F := F) = Cert.KernelIdeal.defs (F := F) :=
  congrArg (Pipeline.defs Cert.KernelIdeal.pcfgs) body_eq

/-- The kernel on machine floats leaves its arguments as they were and ends with every counter at zero. -/
theorem kernel_frame : Cert.quiescent_Kernel := by
  intro m g _
  rw [defs_eq, main_eq]
  exact Cert.KernelIdeal.Hand.frame (F := Bits) m g

end Cert.SameProgram

end
-- ==== Proof.KernelArrays.lean ====
/- What the kernel's result buffer and its two intermediate arrays hold at the end of a run. -/
module

public import proofs.«01_k».proof.Proof.KernelRun
public import Idealize.ShloMosaic.Lib.Pipeline.ValueKit
public import Idealize.ShloMosaic.Lib.StableHlo.Run

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The last grid point. -/
abbrev lastPt : Fin cfg0.N := ⟨48, by rw [show cfg0.N = 49 from N_0]; decide⟩

/-- The first array ends at the accumulated sum after the last point. -/
theorem num_array : (dats m 0 c).arrAt 3 cfg0.N = (numAt m c lastPt.val lastPt.isLt : Vec F S1x1 .f32) :=
  Pipeline.Dat.arrAt_eq_of_after_last _ 3 lastPt (by decide +kernel) _ fun j => by
    rw [after3]; rfl

/-- The second array ends at the sum of the mask. -/
theorem den_array : (dats m 0 c).arrAt 4 cfg0.N = (denAt m c lastPt : Vec F S1x1 .f32) :=
  Pipeline.Dat.arrAt_eq_of_after_last _ 4 lastPt (by decide +kernel) _ fun j => by
    rw [after4]; rfl

/-- No two windows stand on one array. -/
theorem arrays_apart : Function.Injective (Pipeline.arrRef (cfgs 0).spec) := by decide

/-- The host lines after the kernel divide the one by the other. -/
theorem result_tail : Pipeline.afterTail₀ cfgs (dats m) 0 (V0 m) [hostOps1] c main_v7
    = Host.divf (shapeCast S_ (numAt m c lastPt.val lastPt.isLt) shapeCasts_S1x1_S_)
        (shapeCast S_ (denAt m c lastPt) shapeCasts_S1x1_S_) := by
  unfold Pipeline.afterTail₀
  simp only [List.flatten_cons, List.flatten_nil, List.append_nil, hostOps1]
  after_results
  have h3 := Pipeline.withArrays_arr (cfgs 0).spec arrays_apart c (V0 m c) (fun w => (dats m 0 c).arrAt w (cfgs 0).N) 3
  have h4 := Pipeline.withArrays_arr (cfgs 0).spec arrays_apart c (V0 m c) (fun w => (dats m 0 c).arrAt w (cfgs 0).N) 4
  exact congrArg₂ (fun x y => Host.divf (shapeCast S_ x shapeCasts_S1x1_S_) (shapeCast S_ y shapeCasts_S1x1_S_))
    (h3.trans (num_array m c)) (h4.trans (den_array m c))

/-- From any memory with zero counters every execution ends with the quotient in the result buffer and the
    arguments as launched. -/
theorem run_value : θ_run defs (onTc (τ := τ) (main (F := F))) ⟨m, fun _ => 0, ρ⟩ (fun r => ∀ c : Dev nD,
      r.2.mem ((c.tc : Thread nD τ).loc main_v7)
        = Host.divf (shapeCast S_ (numAt m c lastPt.val lastPt.isLt) shapeCasts_S1x1_S_)
            (shapeCast S_ (denAt m c lastPt) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v7 (Pipeline.mem_restRefs_of main_v7 (by decide) (by decide))).trans (result_tail m c), h.2.1 c⟩)
    (θ_run_and ((θ_run defs _ _).mono (fun _ h => h.1) (run_main m ρ)) (frame m ρ))

end Cert.KernelIdeal.Hand

end
-- ==== Proof.KernelBlocks.lean ====
/- What one grid point of the kernel computes, in the entries of the arrays the program was launched with. -/
module

public import proofs.«01_k».proof.Proof.KernelRun
public import proofs.«01_k».proof.Proof.Terms
public import Idealize.ShloMosaic.Lib.Pointwise
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (c : Dev nD)

/-- The probabilities, the weights and the mask the program was launched with. -/
abbrev probs : Vec Ideal S64x196x4096 .f32 := m ((c.tc : Thread nD τ).loc main_arg0)
abbrev weights : Vec Ideal S64x196x4096 .f32 := m ((c.tc : Thread nD τ).loc main_arg1)
abbrev mask : Vec Ideal S64x196 .i1 := m ((c.tc : Thread nD τ).loc main_arg2)

/-! ## The body's two results, in what it reads -/

/-- The body adds the negated sum of its masked terms to what it is given. -/
theorem pay3_apply (x y : Vec Ideal S4x64x4096 .f32) (a : Vec Ideal S4x64 .f32) (n : Vec Ideal S1x1 .f32) :
    k0_pay3 x y a n (ix2 0 0) = n (ix2 0 0) + (0 - ∑ g : Fin 4, ∑ b : Fin 64, ∑ k : Fin 4096,
      y (ix3 g b k) * Ideal.log (if 0 < a (ix2 g b) then x (ix3 g b k) else 1) * a (ix2 g b)) := by
  pointwise [k0_pay3]
  rw [Ideal.reduceAdd_total _ (by decide), sum_idx4]
  pointwise
  rw [Fin.sum_univ_one]

/-- The second result is the sum of the mask. -/
theorem pay2_apply (x : Vec Ideal S196x64 .f32) :
    k0_pay2 x (ix2 0 0) = ∑ j : Fin 196, ∑ b : Fin 64, x (ix2 j b) := by
  pointwise [k0_pay2]

theorem pay1_apply : k0_pay1 (F := Ideal) (ix2 0 0) = 0 := by
  pointwise [k0_pay1]

/-! ## What it reads, in the arguments -/

/-- Where a point's blocks lie. -/
theorem block_at (t : Fin cfg0.N) :
    win0_0.index t = ![0, 0] ∧ win0_1.index t = ![t.val, 0, 0] ∧ win0_2.index t = ![t.val, 0, 0] := by
  revert t; decide +kernel

/-- Where its mask rows lie. -/
theorem rows_at (t : Fin cfg0.N) : k0_off1 (grid0.coords t) 0 = 4 * t.val ∧ k0_off1 (grid0.coords t) 1 = 0 := by
  revert t; decide +kernel

theorem row_lt (t : Fin cfg0.N) (g : Fin 4) : t.val * 4 + g.val < 196 := by
  have := Nat.lt_of_lt_of_eq t.isLt N_0
  omega

/-- The token a point's row `g` belongs to. -/
abbrev token (t : Fin cfg0.N) (g : Fin 4) : Fin 196 := ⟨t.val * 4 + g.val, row_lt t g⟩

/-- The arrays the kernel is launched on. -/
theorem entry_probs : V m c main_v0 = transpose S196x64x4096 [1, 0, 2] (probs m c) transposes_S64x196x4096_S196x64x4096_1_0_2 := by
  entry_read; simp only [hostOps0, List.flatten_cons, List.flatten_nil, List.append_nil]; after_results
theorem entry_weights : V m c main_v1 = transpose S196x64x4096 [1, 0, 2] (weights m c) transposes_S64x196x4096_S196x64x4096_1_0_2 := by
  entry_read; simp only [hostOps0, List.flatten_cons, List.flatten_nil, List.append_nil]; after_results
theorem entry_mask : V m c main_v3 = transpose S196x64 [1, 0] (uitofp (F := Ideal) .f32 (mask m c)) transposes_S64x196_S196x64_1_0 := by
  entry_read; simp only [hostOps0, List.flatten_cons, List.flatten_nil, List.append_nil]; after_results

theorem block_probs (t : Fin cfg0.N) (g : Fin 4) (b : Fin 64) (k : Fin 4096) :
    iblk m c 1 t (ix3 g b k) = probs m c (ix3 b (token t g) k) := by
  have hi := (block_at t).2.1
  blk_simp [iblk]
  rw [entry_probs]
  pointwise
  blk_ext [hi]

theorem block_weights (t : Fin cfg0.N) (g : Fin 4) (b : Fin 64) (k : Fin 4096) :
    iblk m c 2 t (ix3 g b k) = weights m c (ix3 b (token t g) k) := by
  have hi := (block_at t).2.2
  blk_simp [iblk]
  rw [entry_weights]
  pointwise
  blk_ext [hi]

theorem block_mask (t : Fin cfg0.N) (j : Fin 196) (b : Fin 64) :
    iblk m c 0 t (ix2 j b) = Terms.bit (mask m c (ix2 b j)) := by
  have hi := (block_at t).1
  blk_simp [iblk]
  rw [entry_mask]
  pointwise
  refine congrArg (fun i => Terms.bit (mask m c i)) ?_
  blk_ext [hi]

theorem rows_mask (t : Fin cfg0.N) (g : Fin 4) (b : Fin 64) :
    maskRows (grid0.coords t) (iblk m c 0 t) (ix2 g b) = Terms.bit (mask m c (ix2 b (token t g))) := by
  obtain ⟨h0, h1⟩ := rows_at t
  have e : maskRows (grid0.coords t) (iblk m c 0 t) (ix2 g b) = iblk m c 0 t (ix2 (token t g) b) := by
    pointwise [maskRows]
    refine congrArg₂ (fun (j : Fin 196) (b : Fin 64) => iblk m c 0 t (ix2 j b)) (Fin.ext ?_) (Fin.ext ?_)
    · show k0_off1 (grid0.coords t) 0 + g.val = t.val * 4 + g.val
      omega
    · show k0_off1 (grid0.coords t) 1 + b.val = b.val
      omega
  rw [e, block_mask]

/-! ## A point's results, in the arguments -/

/-- The term of token `j` of row `b` at entry `k`. -/
abbrev termAt (b : Fin 64) (j : Fin 196) (k : Fin 4096) : EReal :=
  Terms.term (probs m c (ix3 b j k)) (weights m c (ix3 b j k)) (mask m c (ix2 b j))

/-- A point adds the negated sum of the terms of its four tokens, over every row. -/
theorem addBlock_apply (t : Fin cfg0.N) (n : Vec Ideal S1x1 .f32) :
    addBlock m c t n (ix2 0 0)
      = n (ix2 0 0) + (0 - ∑ g : Fin 4, ∑ b : Fin 64, ∑ k : Fin 4096, termAt m c b (token t g) k) := by
  unfold addBlock
  rw [pay3_apply]
  simp only [block_probs, block_weights, rows_mask, Terms.kernel_term]

/-- The second result is the number of selected tokens. -/
theorem denAt_apply (t : Fin cfg0.N) :
    denAt m c t (ix2 0 0) = ∑ j : Fin 196, ∑ b : Fin 64, Terms.bit (mask m c (ix2 b j)) := by
  unfold denAt
  rw [pay2_apply]
  simp only [block_mask]

end Cert.KernelIdeal.Hand

end
-- ==== Proof.KernelSum.lean ====
/- The kernel's result as one quotient of sums over the arrays it was launched with. -/
module

public import proofs.«01_k».proof.Proof.KernelArrays
public import proofs.«01_k».proof.Proof.KernelBlocks

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (c : Dev nD)

/-- After the last point the first result is the sum of what the points add. -/
theorem num_sum : numAt m c lastPt.val lastPt.isLt (ix2 0 0)
    = ∑ t : Fin cfg0.N, (0 - ∑ g : Fin 4, ∑ b : Fin 64, ∑ k : Fin 4096, termAt m c b (token t g) k) := by
  have key := Pipeline.eq_sum_fin_of_reset_step_last (N := cfg0.N) (fun n h => (numAt m c n h (ix2 0 0) : EReal)) 49 0
    (fun t => 0 - ∑ g : Fin 4, ∑ b : Fin 64, ∑ k : Fin 4096, termAt m c b (token t g) k)
    (fun t h => by
      have ht : t.val = 0 := by have := Nat.lt_of_lt_of_eq t.isLt N_0; omega
      rw [numAt_first m c t ht, addBlock_apply, pay1_apply])
    (fun t h => by
      rw [numAt_later m c t (fun h0 => h (by rw [h0])), addBlock_apply])
    (le_of_eq N_0) lastPt N_0.symm
  rw [zero_add] at key
  exact key

/-- Where no term is +∞ the negations distribute, and the first result is the sum of every negated term. -/
theorem num_terms (h : ∀ b j k, termAt m c b j k ≠ ⊤) : numAt m c lastPt.val lastPt.isLt (ix2 0 0)
    = ∑ b : Fin 64, ∑ j : Fin 196, ∑ k : Fin 4096, -termAt m c b j k := by
  have point (t : Fin cfg0.N) : (0 : EReal) - ∑ g : Fin 4, ∑ b : Fin 64, ∑ k : Fin 4096, termAt m c b (token t g) k
      = ∑ g : Fin 4, ∑ b : Fin 64, ∑ k : Fin 4096, -termAt m c b (token t g) k := by
    have hk (g : Fin 4) (b : Fin 64) := Terms.sum_ne_top Finset.univ _ fun k _ => h b (token t g) k
    have hb (g : Fin 4) := Terms.sum_ne_top Finset.univ _ fun b _ => hk g b
    rw [zero_sub, Terms.neg_sum _ _ fun g _ => hb g]
    refine Finset.sum_congr rfl fun g _ => ?_
    rw [Terms.neg_sum _ _ fun b _ => hk g b]
    exact Finset.sum_congr rfl fun b _ => Terms.neg_sum _ _ fun k _ => h b (token t g) k
  have tokens := Fin.sum_mul_add_fin cfg0.N 4 (fun j : Fin 196 => ∑ b : Fin 64, ∑ k : Fin 4096, -termAt m c b j k)
    (by rw [show cfg0.N = 49 from N_0])
  exact (num_sum m c).trans ((Finset.sum_congr rfl fun t _ => point t).trans (tokens.trans Finset.sum_comm))

/-- The kernel's result at its one index. -/
theorem result_apply (h : ∀ b j k, termAt m c b j k ≠ ⊤) (i : S_.Idx) :
    Host.divf (shapeCast S_ (numAt m c lastPt.val lastPt.isLt) shapeCasts_S1x1_S_)
        (shapeCast S_ (denAt m c lastPt) shapeCasts_S1x1_S_) i
      = Ideal.div (∑ b : Fin 64, ∑ j : Fin 196, ∑ k : Fin 4096, -termAt m c b j k)
          (∑ b : Fin 64, ∑ j : Fin 196, Terms.bit (mask m c (ix2 b j))) := by
  rw [← num_terms m c h, Finset.sum_comm, ← denAt_apply m c lastPt]
  pointwise

end Cert.KernelIdeal.Hand

end
-- ==== Proof.ReferenceSum.lean ====
/- The reference's result as the same quotient of sums over its arguments. -/
module

public import proofs.«01_k».proof.Proof.Gen.ReferenceIdeal.Run
public import proofs.«01_k».proof.Proof.Terms

@[expose] public section

set_option maxRecDepth 16384

noncomputable section

namespace Cert.ReferenceIdeal.Hand

open Cert.ReferenceIdeal Cert.ReferenceIdeal.Gen
open Idealize.ShloMosaic

variable (p q : FVec Ideal S64x196x4096 .f32) (s : IVec S64x196 1)

/-- What the reference's lines compute of the probabilities `p`, the weights `q` and the mask `s`: each token's
    loss, the sum of the selected ones, and its quotient by their number. -/
abbrev loss : FVec Ideal S_ .f32 :=
  Host.divf
    (Host.reduceAdd
      (mulf
        (Host.negf (Host.reduceAdd
          (mulf q (Host.log (select
            (broadcastInDim S64x196x4096 ![0, 1, 2] bcast_S64x196x1_S64x196x4096_0_1_2
              (broadcastInDim S64x196x1 ![0, 1] bcast_S64x196_S64x196x1_0_1 s))
            p (broadcastInDim S64x196x4096 ![] bcast_S_S64x196x4096 (constant S_ .f32 0x3F800000#32)))))
          (constant S_ .f32 0x00000000#32) reducesTo_S64x196x4096_S64x196_d2 h_S_))
        (uitofp .f32 s))
      (constant S_ .f32 0x00000000#32) reducesTo_S64x196_S_d0_1 h_S_)
    (Host.reduceAdd (uitofp .f32 s) (constant S_ .f32 0x00000000#32) reducesTo_S64x196_S_d0_1 h_S_)

/-- At its one index: the negated sums of the tokens' terms, over the number of selected tokens. -/
theorem loss_apply (i : S_.Idx) : loss p q s i
    = Ideal.div (∑ b : Fin 64, ∑ j : Fin 196, -∑ k : Fin 4096, Terms.term (p (ix3 b j k)) (q (ix3 b j k)) (s (ix2 b j)))
        (∑ b : Fin 64, ∑ j : Fin 196, Terms.bit (s (ix2 b j))) := by
  have token (b : Fin 64) (j : Fin 196) := Terms.reference_token (fun k : Fin 4096 => p (ix3 b j k)) (fun k => q (ix3 b j k)) (s (ix2 b j))
  refine Eq.trans ?_ (congrArg (fun n => Ideal.div n _) (Finset.sum_congr rfl fun b _ => Finset.sum_congr rfl fun j _ => token b j))
  pointwise [loss]
  rfl

/-- Where no term is +∞ the negation distributes over a token's sum. -/
theorem loss_terms (h : ∀ b j k, Terms.term (p (ix3 b j k)) (q (ix3 b j k)) (s (ix2 b j)) ≠ ⊤) (i : S_.Idx) :
    loss p q s i
      = Ideal.div (∑ b : Fin 64, ∑ j : Fin 196, ∑ k : Fin 4096, -Terms.term (p (ix3 b j k)) (q (ix3 b j k)) (s (ix2 b j)))
          (∑ b : Fin 64, ∑ j : Fin 196, Terms.bit (s (ix2 b j))) := by
  rw [loss_apply]
  refine congrArg (fun n => Ideal.div n _) (Finset.sum_congr rfl fun b _ => Finset.sum_congr rfl fun j _ => ?_)
  exact Terms.neg_sum _ _ fun k _ => h b j k

end Cert.ReferenceIdeal.Hand

end
-- ==== Proof.Equation.lean ====
/- The one equation between the two programs: under the precondition they compute the same quotient. -/
module

public import proofs.«01_k».proof.Proof.KernelSum
public import proofs.«01_k».proof.Proof.ReferenceSum
public import proofs.«01_k».proof.Proof.Precondition

@[expose] public section

set_option maxRecDepth 16384

noncomputable section

namespace Cert.Equation

open Idealize.ShloMosaic Idealize.ShloMosaic.TcCoe Idealize.SL.Sem
open Cert.KernelIdeal (nD τ sig)
open Cert.KernelIdeal.Hand (numAt denAt lastPt probs weights mask)

/-- On arguments that meet the precondition the kernel's result is the reference's loss. -/
theorem result_eq (m : (ℓ : Loc nD τ sig) → Buf (Elt Ideal) ℓ) (c : Dev nD)
    (h : Cert.Pre_finite_terms.fn (F := Ideal) (probs m c) (weights m c) (mask m c) = fun _ => 1#1) :
    Host.divf (shapeCast Cert.KernelIdeal.S_ (numAt m c lastPt.val lastPt.isLt) Cert.KernelIdeal.Gen.shapeCasts_S1x1_S_)
        (shapeCast Cert.KernelIdeal.S_ (denAt m c lastPt) Cert.KernelIdeal.Gen.shapeCasts_S1x1_S_)
      = Cert.ReferenceIdeal.Hand.loss (probs m c) (weights m c) (mask m c) := by
  have ht := Cert.Pre_finite_terms.Hand.term_ne_top (probs m c) (weights m c) (mask m c) h
  funext i
  exact (Cert.KernelIdeal.Hand.result_apply m c ht i).trans
    (Cert.ReferenceIdeal.Hand.loss_terms (probs m c) (weights m c) (mask m c) ht i).symm

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Precondition
public import proofs.«01_k».proof.Proof.SameProgram
public import proofs.«01_k».proof.Proof.KernelArrays
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, leaves its arguments as they were, and ends with every counter at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-- On arguments that meet the precondition the kernel and the reference end with the same loss. -/
theorem value : Cert.algebraic_KernelIdeal_ReferenceIdeal_pre_finite_terms := by
  intro m g m' g' hpre hagree
  refine ⟨_, Cert.KernelIdeal.Hand.run_value m g, ?_⟩
  refine (θ_run _ _ _).mono (fun r h c => ?_) (Cert.ReferenceIdeal.Value.run m' g')
  obtain ⟨h0, h1, h2⟩ := hagree c
  refine ⟨(h c).1.trans ?_, (h c).2⟩
  rw [h0, h1, h2]
  exact (Cert.Equation.result_eq m c (hpre c)).symm

/-- Every claim of the certificate. -/
theorem claim : Cert.Claim :=
  ⟨Cert.Kernel.Gen.facts, Cert.KernelIdeal.Gen.facts, Cert.ReferenceIdeal.Gen.facts, Cert.Pre_finite_terms.Hand.facts,
    Cert.SameProgram.kernel_frame,
    fun m g _ => Cert.KernelIdeal.Hand.frame m g,
    fun m g _ => Cert.KernelIdeal.Hand.frame m g,
    reference_frame,
    fun m g _ => reference_frame m g trivial,
    trivial,
    value⟩

end Cert.Proof

end
